-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x2048 : Shape := ⟨3, ![1, 768, 2048]⟩
abbrev S1 : Shape := ⟨1, ![1]⟩
abbrev S3584x2048 : Shape := ⟨2, ![3584, 2048]⟩
abbrev S3584 : Shape := ⟨1, ![3584]⟩
abbrev S1x1 : Shape := ⟨2, ![1, 1]⟩
abbrev S768x2048 : Shape := ⟨2, ![768, 2048]⟩
abbrev S1x3584 : Shape := ⟨2, ![1, 3584]⟩
abbrev S768x3584 : Shape := ⟨2, ![768, 3584]⟩
abbrev S512x2048 : Shape := ⟨2, ![512, 2048]⟩
abbrev S1x512 : Shape := ⟨2, ![1, 512]⟩
abbrev S768x512 : Shape := ⟨2, ![768, 512]⟩
abbrev S1x256 : Shape := ⟨2, ![1, 256]⟩
abbrev S1x768x3584 : Shape := ⟨3, ![1, 768, 3584]⟩

abbrev nBuf : Space → Nat
  | .hbm => 13
  | .vmem => 11
  | .smem => 0
  | _ => 0

abbrev bufTy : (tb : Table) → Fin (tcTables nBuf tb) → BufTy
  | .hbm, ⟨0, _⟩ => ⟨S1x768x2048, .bf16⟩
  | .hbm, ⟨1, _⟩ => ⟨S1, .f32⟩
  | .hbm, ⟨2, _⟩ => ⟨S3584x2048, .fp8e4m3⟩
  | .hbm, ⟨3, _⟩ => ⟨S3584, .f32⟩
  | .hbm, ⟨4, _⟩ => ⟨S3584, .f32⟩
  | .hbm, ⟨5, _⟩ => ⟨S1x1, .f32⟩
  | .hbm, ⟨6, _⟩ => ⟨S768x2048, .bf16⟩
  | .hbm, ⟨7, _⟩ => ⟨S1x3584, .f32⟩
  | .hbm, ⟨8, _⟩ => ⟨S1x3584, .f32⟩
  | .hbm, ⟨9, _⟩ => ⟨S768x3584, .bf16⟩
  | .hbm, ⟨10, _⟩ => ⟨S768x2048, .fp8e4m3⟩
  | .hbm, ⟨11, _⟩ => ⟨S1x768x3584, .bf16⟩
  | .hbm, ⟨12, _⟩ => ⟨S1x768x2048, .fp8e4m3⟩
  | .local _ .vmem, ⟨0, _⟩ => ⟨S1x1, .f32⟩
  | .local _ .vmem, ⟨1, _⟩ => ⟨S768x2048, .bf16⟩
  | .local _ .vmem, ⟨2, _⟩ => ⟨S512x2048, .fp8e4m3⟩
  | .local _ .vmem, ⟨3, _⟩ => ⟨S512x2048, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S768x512, .bf16⟩
  | .local _ .vmem, ⟨9, _⟩ => ⟨S768x512, .bf16⟩
  | .local _ .vmem, ⟨10, _⟩ => ⟨S768x2048, .fp8e4m3⟩
  | _, _ => ⟨S1x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x768x2048 : Shape := ⟨3, ![1, 768, 2048]⟩
abbrev S1 : Shape := ⟨1, ![1]⟩
abbrev S3584x2048 : Shape := ⟨2, ![3584, 2048]⟩
abbrev S3584 : Shape := ⟨1, ![3584]⟩
abbrev S1x768x3584 : Shape := ⟨3, ![1, 768, 3584]⟩
abbrev S1x1x1 : Shape := ⟨3, ![1, 1, 1]⟩
abbrev S1x1x3584 : Shape := ⟨3, ![1, 1, 3584]⟩

abbrev nBuf : Space → Nat
  | .hbm => 8
  | .vmem => 8
  | .smem => 0
  | _ => 0

abbrev bufTy : (tb : Table) → Fin (tcTables nBuf tb) → BufTy
  | .hbm, ⟨0, _⟩ => ⟨S1x768x2048, .bf16⟩
  | .hbm, ⟨1, _⟩ => ⟨S1, .f32⟩
  | .hbm, ⟨2, _⟩ => ⟨S3584x2048, .fp8e4m3⟩
  | .hbm, ⟨3, _⟩ => ⟨S3584, .f32⟩
  | .hbm, ⟨4, _⟩ => ⟨S3584, .f32⟩
  | .hbm, ⟨5, _⟩ => ⟨S1x768x3584, .bf16⟩
  | .hbm, ⟨6, _⟩ => ⟨S1x768x2048, .fp8e4m3⟩
  | .hbm, ⟨7, _⟩ => ⟨S1, .f32⟩
  | .local _ .vmem, ⟨0, _⟩ => ⟨S1x768x2048, .bf16⟩
  | .local _ .vmem, ⟨1, _⟩ => ⟨S1, .f32⟩
  | .local _ .vmem, ⟨2, _⟩ => ⟨S3584x2048, .fp8e4m3⟩
  | .local _ .vmem, ⟨3, _⟩ => ⟨S3584, .f32⟩
  | .local _ .vmem, ⟨4, _⟩ => ⟨S3584, .f32⟩
  | .local _ .vmem, ⟨5, _⟩ => ⟨S1x768x3584, .bf16⟩
  | .local _ .vmem, ⟨6, _⟩ => ⟨S1x768x2048, .fp8e4m3⟩
  | .local _ .vmem, ⟨7, _⟩ => ⟨S1, .f32⟩
  | _, _ => ⟨S1x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S1x768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
/- The inverse power-of-two scale. The idealized kernel counts the powers of two that the scale's magnitude reaches and
   builds the inverse scale from the words of two powers; the reference takes the floor of a logarithm and an `exp2`. Both
   are the same extended real, at every scale. -/
module

public import proofs.«01_k».proof.Proof.Gen.KernelIdeal.Skeleton
public import proofs.«01_k».proof.Proof.Gen.ReferenceIdeal.Skeleton
public import Idealize.ShloMosaic.Lib.Pointwise
public import Idealize.ShloMosaic.Lib.IdealHost
public import Idealize.ShloMosaic.Lib.IndicatorCount

@[expose] public section

set_option maxRecDepth 16384

noncomputable section

namespace Cert.Scale

open Idealize.ShloMosaic

/-! ## Words of powers of two -/

/-- The f32 word with exponent field `x` and nothing else, as an extended real. -/
def power (x : BitVec 32) : EReal := Ideal.ofBits .f32 (IntOp.shli .vector x 23#32)

/-- The three fields of that word. -/
theorem power_fields : ∀ x : Fin 256,
    (IntOp.shli .vector (BitVec.ofNat 32 x.val) 23#32).extractLsb' 31 1 = 0#1
    ∧ ((IntOp.shli .vector (BitVec.ofNat 32 x.val) 23#32).extractLsb' 23 8).toNat = x.val
    ∧ ((IntOp.shli .vector (BitVec.ofNat 32 x.val) 23#32).extractLsb' 0 23).toNat = 0 := by
  decide +kernel

/-- A positive word with exponent field `x` from 1 to 254 and an empty fraction denotes the power of two, -/
theorem ieee_power (b : BitVec 32) (x : ℕ) (hs : b.extractLsb' 31 1 = 0#1) (he : (b.extractLsb' 23 8).toNat = x)
    (hf : (b.extractLsb' 0 23).toNat = 0) (h1 : 1 ≤ x) (h2 : x ≤ 254) :
    Ideal.ieee 8 23 b = (((2 : ℝ) ^ ((x : ℤ) - 127) : ℝ) : EReal) := by
  unfold Ideal.ieee
  simp only [Nat.reduceAdd, hs, he, hf]
  rw [if_neg (by omega), if_neg (by omega)]
  congr 1
  have h20 : (2 : ℝ) ≠ 0 := by norm_num
  have e : (x : ℤ) - 127 = 23 + ((x : ℤ) - (2 ^ (8 - 1) - 1) - 23) := by norm_num
  rw [e, zpow_add₀ h20]
  norm_num

/-- and with field 255 infinity. -/
theorem ieee_top (b : BitVec 32) (hs : b.extractLsb' 31 1 = 0#1) (he : (b.extractLsb' 23 8).toNat = 255)
    (hf : (b.extractLsb' 0 23).toNat = 0) : Ideal.ieee 8 23 b = ⊤ := by
  unfold Ideal.ieee
  simp only [Nat.reduceAdd, hs, he, hf]
  rfl

/-- Fields 1 to 254 denote the power of two. -/
theorem power_eq (x : ℕ) (h1 : 1 ≤ x) (h2 : x ≤ 254) :
    power (BitVec.ofNat 32 x) = (((2 : ℝ) ^ ((x : ℤ) - 127) : ℝ) : EReal) :=
  have h := power_fields ⟨x, by omega⟩
  ieee_power _ x h.1 h.2.1 h.2.2 h1 h2

/-- Field 255 denotes infinity. -/
theorem power_top : power (BitVec.ofNat 32 255) = ⊤ := by
  show Ideal.ieee 8 23 (IntOp.shli .vector (BitVec.ofNat 32 255) 23#32) = ⊤
  exact ieee_top _ (by decide) (by decide) (by decide)

/-! ## The kernel's inverse scale as a function of a count -/

/-- The exponent that a count of powers gives, as a word -/
def expWord (c : BitVec 32) : BitVec 32 :=
  Scalar.select (IntOp.ori (IntOp.cmpi .eq c 0#32) (IntOp.cmpi .eq c 255#32)) 0#32 (IntOp.subi c 126#32)

/-- and as an integer. -/
def expOf (c : ℕ) : ℤ := if c = 0 ∨ c = 255 then 0 else (c : ℤ) - 126

/-- The exponent field of the first factor, -/
def loWord (c : BitVec 32) : BitVec 32 := IntOp.addi (IntOp.shrsi .vector (IntOp.subi 1#32 (expWord c)) 1#32) 127#32
/-- and of the second. -/
def hiWord (c : BitVec 32) : BitVec 32 :=
  IntOp.addi (IntOp.subi (IntOp.subi 1#32 (expWord c)) (IntOp.shrsi .vector (IntOp.subi 1#32 (expWord c)) 1#32)) 127#32

/-- The two fields are naturals from 1 to 254, which sum to `1 - expOf c` above twice the bias. -/
theorem words : ∀ c : Fin 256, loWord (BitVec.ofNat 32 c.val) = BitVec.ofNat 32 (loWord (BitVec.ofNat 32 c.val)).toNat
    ∧ hiWord (BitVec.ofNat 32 c.val) = BitVec.ofNat 32 (hiWord (BitVec.ofNat 32 c.val)).toNat
    ∧ 1 ≤ (loWord (BitVec.ofNat 32 c.val)).toNat ∧ (loWord (BitVec.ofNat 32 c.val)).toNat ≤ 254
    ∧ 1 ≤ (hiWord (BitVec.ofNat 32 c.val)).toNat ∧ (hiWord (BitVec.ofNat 32 c.val)).toNat ≤ 254
    ∧ ((loWord (BitVec.ofNat 32 c.val)).toNat : ℤ) - 127 + (((hiWord (BitVec.ofNat 32 c.val)).toNat : ℤ) - 127) = 1 - expOf c.val := by
  decide +kernel

/-- The product of the two powers is the power of the inverse scale. -/
theorem power_mul (c : ℕ) (hc : c < 256) :
    power (loWord (BitVec.ofNat 32 c)) * power (hiWord (BitVec.ofNat 32 c)) = (((2 : ℝ) ^ (1 - expOf c) : ℝ) : EReal) := by
  obtain ⟨hl, hh, l1, l2, h1, h2, hs⟩ := words ⟨c, hc⟩
  simp only at hl hh l1 l2 h1 h2 hs
  rw [hl, hh, power_eq _ l1 l2, power_eq _ h1 h2, ← EReal.coe_mul, ← zpow_add₀ (by norm_num : (2 : ℝ) ≠ 0), hs]

/-! ## The count -/

/-- Lane `k` counts: its power is reached by the magnitude `a`, and it is not lane 0. -/
def hot (a : EReal) (k : Fin 256) : BitVec 1 :=
  IntOp.andi (BitVec.ofBool (decide (power (BitVec.ofNat 32 k.val) ≤ a))) (IntOp.cmpi .sgt (BitVec.ofNat 32 k.val) 0#32)

/-- The number of powers that `a` reaches: the exponent field of `a`'s word, for a magnitude that has one. -/
def field (a : EReal) : ℕ := (Finset.univ.filter fun k => hot a k = 1#1).card

theorem field_lt (a : EReal) : field a < 256 := by
  have h : ∀ k ∈ (Finset.univ.filter fun k : Fin 256 => hot a k = 1#1), k ∈ Finset.univ.erase (0 : Fin 256) := by
    intro k hk
    rw [Finset.mem_erase]
    refine ⟨?_, Finset.mem_univ _⟩
    rintro rfl
    have := (Finset.mem_filter.1 hk).2
    unfold hot at this
    revert this
    cases decide (power (BitVec.ofNat 32 (0 : Fin 256).val) ≤ a) <;> decide
  have := Finset.card_le_card h
  rw [Finset.card_erase_of_mem (Finset.mem_univ _), Finset.card_univ, Fintype.card_fin] at this
  unfold field; omega

/-- A sum of ones over the hot lanes is the count. -/
theorem fold_hot (a : EReal) :
    Finset.fold IntOp.addi 0#32 (fun k => Scalar.select (hot a k) 1#32 0#32) Finset.univ = BitVec.ofNat 32 (field a) := by
  rw [show (fun k => Scalar.select (hot a k) 1#32 0#32) = fun k => (hot a k).setWidth 32 from
    funext fun k => (by decide : ∀ b : BitVec 1, Scalar.select b 1#32 0#32 = b.setWidth 32) (hot a k)]
  exact IndicatorCount.fold_addi_setWidth_eq_card _ _

/-- The kernel's inverse scale. -/
theorem pay4_apply (s : Vec Ideal Cert.KernelIdeal.S1x1 .f32) :
    Cert.KernelIdeal.Gen.k0_pay4 (F := Ideal) s (ix2 0 0)
      = (((2 : ℝ) ^ (1 - expOf (field (FloatOps.absf (F := Ideal) (φ := .f32) (s (ix2 0 0))))) : ℝ) : EReal) := by
  rw [← power_mul _ (field_lt _), ← fold_hot]
  pointwise [Cert.KernelIdeal.Gen.k0_pay4]
  rfl

/-- Lane `k` is hot exactly when `k` is from 1 and its power is reached. -/
theorem hot_iff (a : EReal) (k : Fin 256) : hot a k = 1#1 ↔ 1 ≤ k.val ∧ power (BitVec.ofNat 32 k.val) ≤ a := by
  have hk : ∀ k : Fin 256, (IntOp.cmpi .sgt (BitVec.ofNat 32 k.val) 0#32 : BitVec 1) = BitVec.ofBool (decide (1 ≤ k.val)) := by
    decide +kernel
  unfold hot
  rw [hk]
  by_cases h1 : 1 ≤ k.val <;> by_cases h2 : power (BitVec.ofNat 32 k.val) ≤ a <;> simp only [h1, h2, decide_true, decide_false] <;> decide

/-- How many lanes there are from 1 to `M`. -/
theorem card_lanes : ∀ M : Fin 256, (Finset.univ.filter fun k : Fin 256 => 1 ≤ k.val ∧ k.val ≤ M.val).card = M.val := by
  decide +kernel

/-- The count, once the hot lanes are those from 1 to `M`. -/
theorem field_eq (a : EReal) (M : ℕ) (hM : M < 256) (h : ∀ k : Fin 256, 1 ≤ k.val → (power (BitVec.ofNat 32 k.val) ≤ a ↔ k.val ≤ M)) :
    field a = M := by
  unfold field
  refine Eq.trans ?_ (card_lanes ⟨M, hM⟩)
  congr 1
  ext k
  simp only [Finset.mem_filter, Finset.mem_univ, true_and, hot_iff]
  constructor
  · rintro ⟨h1, h2⟩; exact ⟨h1, (h k h1).mp h2⟩
  · rintro ⟨h1, h2⟩; exact ⟨h1, (h k h1).mpr h2⟩

/-! ## The reference's exponent -/

/-- The reference's exponent of the magnitude `a`. -/
def refExp (a : EReal) : EReal :=
  Scalar.select (IntOp.ori (BitVec.ofBool (decide (a < Ideal.ofBits .f32 8388608#32))) (BitVec.ofBool (decide (a = Ideal.ofBits .f32 2139095040#32))))
    0 (min (Ideal.liftRound Int.floor (Ideal.log a * (((Real.log 2)⁻¹ : ℝ) : EReal)) + 1) (Ideal.ofBits .f32 1124073472#32))

theorem ofBits_tiny : Ideal.ofBits .f32 8388608#32 = (((2 : ℝ) ^ (-126 : ℤ) : ℝ) : EReal) :=
  power_eq 1 (by norm_num) (by norm_num)

theorem ofBits_inf : Ideal.ofBits .f32 2139095040#32 = ⊤ := power_top

theorem ofBits_128 : Ideal.ofBits .f32 1124073472#32 = ((128 : ℝ) : EReal) :=
  (power_eq 134 (by norm_num) (by norm_num)).trans (by norm_num)

/-- A magnitude below the least normal: no power is reached, -/
theorem field_small (a : EReal) (h : a < (((2 : ℝ) ^ (-126 : ℤ) : ℝ) : EReal)) : field a = 0 := by
  refine field_eq a 0 (by omega) fun k h1 => ⟨fun hk => absurd hk (not_le.mpr (lt_of_lt_of_le h ?_)), fun hk => by omega⟩
  rcases Nat.lt_or_ge k.val 255 with h2 | h2
  · rw [power_eq _ h1 (by omega), EReal.coe_le_coe_iff]
    exact zpow_le_zpow_right₀ (by norm_num) (by omega)
  · rw [show k.val = 255 by omega, power_top]; exact le_top

/-- infinity: every power is, -/
theorem field_top : field ⊤ = 255 :=
  field_eq ⊤ 255 (by omega) fun k _ => ⟨fun _ => by omega, fun _ => le_top⟩

/-- and between, those up to the floor of the logarithm, at most all the finite ones. -/
theorem field_mid (r : ℝ) (hr : (2 : ℝ) ^ (-126 : ℤ) ≤ r) :
    (field (r : EReal) : ℤ) = min (⌊Real.log r * (Real.log 2)⁻¹⌋ + 127) 254 ∧ 1 ≤ field (r : EReal) := by
  have hl2 : 0 < Real.log 2 := Real.log_pos (by norm_num)
  have hr0 : 0 < r := lt_of_lt_of_le (by positivity) hr
  have key : ∀ z : ℤ, (2 : ℝ) ^ z ≤ r ↔ z ≤ ⌊Real.log r * (Real.log 2)⁻¹⌋ := fun z => by
    rw [Int.le_floor, ← div_eq_mul_inv, le_div_iff₀ hl2, ← Real.log_zpow, Real.log_le_log_iff (by positivity) hr0]
  have hn := (key (-126)).mp hr
  generalize ⌊Real.log r * (Real.log 2)⁻¹⌋ = n at key hn
  have e : field (r : EReal) = (min (n + 127) 254).toNat := by
    refine field_eq _ _ (by omega) fun k h1 => ?_
    rcases Nat.lt_or_ge k.val 255 with h2 | h2
    · rw [power_eq _ h1 (by omega), EReal.coe_le_coe_iff, key]; omega
    · rw [show k.val = 255 by omega, power_top]
      exact ⟨fun hk => absurd (top_le_iff.mp hk) (EReal.coe_ne_top r), fun hk => by omega⟩
  omega

/-- The reference's exponent is that of the count. -/
theorem refExp_eq (a : EReal) (ha : 0 ≤ a) : refExp a = ((expOf (field a) : ℝ) : EReal) := by
  unfold refExp
  rw [ofBits_tiny, ofBits_inf, ofBits_128]
  by_cases h1 : a < (((2 : ℝ) ^ (-126 : ℤ) : ℝ) : EReal)
  · rw [field_small a h1, decide_eq_true h1]
    cases decide (a = ⊤) <;> simp [Scalar.select, IntOp.ori, expOf]
  rw [decide_eq_false h1]
  by_cases h2 : a = ⊤
  · subst h2; rw [field_top]; simp [Scalar.select, IntOp.ori, expOf]
  rw [decide_eq_false h2]
  obtain ⟨r, rfl⟩ : ∃ r : ℝ, a = r := ⟨a.toReal, (EReal.coe_toReal h2 (fun h => by rw [h] at ha; exact absurd ha (by simp))).symm⟩
  have hr : (2 : ℝ) ^ (-126 : ℤ) ≤ r := EReal.coe_le_coe_iff.mp (not_lt.mp h1)
  have hr0 : 0 < r := lt_of_lt_of_le (by positivity) hr
  obtain ⟨hf, h1f⟩ := field_mid r hr
  rw [Ideal.log_coe, if_neg (not_le.mpr hr0), ← EReal.coe_mul, Ideal.liftRound_coe]
  have hx : expOf (field (r : EReal)) = min (⌊Real.log r * (Real.log 2)⁻¹⌋ + 1) 128 := by
    unfold expOf; rw [if_neg (by omega)]; omega
  rw [hx, show IntOp.ori (BitVec.ofBool false) (BitVec.ofBool false) = 0#1 from rfl]
  show min (((⌊Real.log r * (Real.log 2)⁻¹⌋ : ℝ) : EReal) + ((1 : ℝ) : EReal)) ((128 : ℝ) : EReal) = _
  rw [← EReal.coe_add, ← EReal.coe_strictMono.monotone.map_min]
  push_cast
  rfl

/-- A magnitude is at least zero. -/
theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- The reference's inverse scale is the power that the count gives. -/
theorem exp2_refExp (a : EReal) (ha : 0 ≤ a) :
    FloatOps.exp2 (F := Ideal) (φ := .f32) (1 - refExp a) = (((2 : ℝ) ^ (1 - expOf (field a)) : ℝ) : EReal) := by
  rw [refExp_eq a ha]
  show Ideal.exp2 (((1 : ℝ) : EReal) - ((expOf (field a) : ℝ) : EReal)) = _
  rw [← EReal.coe_sub, Ideal.exp2_coe, ← Real.rpow_intCast]
  congr 1
  show (2 : ℝ) ^ ((1 : ℝ) - (expOf (field a) : ℝ)) = _
  push_cast
  rfl

end Cert.Scale

end
-- ==== Proof.Body.lean ====
/- The body of the idealized kernel's one pallas_call, point by point.
   At the first grid point the body quantises the activations into the codes window; at every point it multiplies the
   codes by the point's block of weight codes, scales and adds the bias. The codes window is stored at the first point
   only: at the later points it is read as the first point left it, and written back after the last. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The codes of the activations `x` at the scale `s`. -/
def codesOf (s : Vec F S1x1 .f32) (x : Vec F S768x2048 .bf16) : Vec F S768x2048 .fp8e4m3 :=
  k0_pay2 (k0_pay4 (k0_pay1 s)) (k0_pay5 x)

/-- One block of the product: `codes` by the block `w` of weight codes, scaled by `s` and `ws`, plus the bias `b`. -/
def yOf (s : Vec F S1x1 .f32) (codes : Vec F S768x2048 .fp8e4m3) (w : Vec F S512x2048 .fp8e4m3) (ws b : Vec F S1x512 .f32) :
    Vec F S768x512 .bf16 :=
  k0_pay3 s codes w ws b

theorem zero2 : (![0, 0] : Fin 2 → Nat) = fun _ => 0 := funext fun a => by fin_cases a <;> rfl

/-- The condition of the body's one conditional. -/
abbrev isFirst (i : grid0.Coords) : Prop := k0_cond1 i = 1#1

/-- It holds at the first point only. -/
theorem isFirst_iff (t : Fin cfg0.N) : isFirst (grid0.coords t) ↔ t.val % 7 = 0 := by
  have ht : t.val < 7 := Nat.lt_of_lt_of_eq t.isLt N_0
  have e0 : (grid0.coords t 0).val = t.val / 1 % 7 := Pipeline.Grid.coords_val t 0 (by decide) rfl
  simp only [isFirst, k0_cond1, e0]
  word_cmp

/-- A store through the whole of the y block covers it; -/
theorem cover_y (p : Vec F S768x512 .bf16) (y : S768x512.Idx) :
    ∃ pc ∈ ([⟨Rect.unit (s := S768x512) ![0, 0] S768x512.size inb_S768x512_S768x512_0_0, p⟩] : List (View.Piece (Elt F) S768x512 .bf16)), y ∈ pc.1.set :=
  View.cover_of_tiled [⟨Rect.unit (s := S768x512) ![0, 0] S768x512.size inb_S768x512_S768x512_0_0, p⟩] S768x512.size (by rfl) y
/-- a store through the whole of the codes block covers it. -/
theorem cover_codes (p : Vec F S768x2048 .fp8e4m3) (y : S768x2048.Idx) :
    ∃ pc ∈ ([⟨Rect.unit (s := S768x2048) ![0, 0] S768x2048.size inb_S768x2048_S768x2048_0_0, p⟩] : List (View.Piece (Elt F) S768x2048 .fp8e4m3)), y ∈ pc.1.set :=
  View.cover_of_tiled [⟨Rect.unit (s := S768x2048) ![0, 0] S768x2048.size inb_S768x2048_S768x2048_0_0, p⟩] S768x2048.size (by rfl) y

/-- The y payload of equal operands. -/
theorem yOf_congr {s s' : Vec F S1x1 .f32} {q q' : Vec F S768x2048 .fp8e4m3} {w w' : Vec F S512x2048 .fp8e4m3}
    {ws ws' b b' : Vec F S1x512 .f32} (h0 : s = s') (h1 : q = q') (h2 : w = w') (h3 : ws = ws') (h4 : b = b') :
    k0_pay3 s q w ws b = yOf s' q' w' ws' b' := by
  subst h0 h1 h2 h3 h4; rfl
/-- The codes payload of equal operands. -/
theorem codesOf_congr {s s' : Vec F S1x1 .f32} {x x' : Vec F S768x2048 .bf16} (h0 : s = s') (h1 : x = x') :
    k0_pay2 (k0_pay4 (k0_pay1 s)) (k0_pay5 x) = codesOf s' x' := by
  subst h0 h1; rfl

set_option maxHeartbeats 1000000 in
/-- The body at the first point: both outputs at anything before, the codes window at the codes after, the y window at
    the product by those codes. -/
theorem run_first (c : Dev nD) (i : grid0.Coords) (arg1 : Memref sig .tc .vmem S1x1 .f32) (harg1 : arg1.IsWhole) (arg2 : Memref sig .tc .vmem S768x2048 .bf16) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x512 .bf16) (harg6 : arg6.IsWhole) (arg7 : Memref sig .tc .vmem S768x2048 .fp8e4m3) (harg7 : arg7.IsWhole) (hc0 : isFirst i)
    (x0 : Vec F S1x1 .f32) (x1 : Vec F S768x2048 .bf16) (x2 : Vec F S512x2048 .fp8e4m3) (x3 : Vec F S1x512 .f32) (x4 : Vec F S1x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 (codesOf x0 x1) x2 x3 x4) ∗ owns (c : Thread nD τ) arg7 fullShare (codesOf x0 x1)) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_y _), View.canon_unit_zero zero2]
    refine yOf_congr (View.ld_unit_zero zero2 _ _) ?_ (View.ld_unit_zero zero2 _ _) (View.ld_unit_zero zero2 _ _) (View.ld_unit_zero zero2 _ _)
    refine (View.readCov_eq_canon_ld _ _ _ (cover_codes _)).trans ?_
    rw [View.canon_unit_zero zero2]
    refine (View.ld_unit_zero zero2 _ _).trans ?_
    exact codesOf_congr (View.ld_unit_zero zero2 _ _) (View.ld_unit_zero zero2 _ _)
  iexists _; isplitr
  swap; · iexact H6
  ipureintro
  refine (View.read_writes_eq_canon _ _ _ (cover_codes _)).trans ?_
  rw [View.canon_unit_zero zero2]
  exact codesOf_congr (View.ld_unit_zero zero2 _ _) (View.ld_unit_zero zero2 _ _)

set_option maxHeartbeats 1000000 in
/-- The body at a later point: the codes window is read and left as it is. -/
theorem run_later (c : Dev nD) (i : grid0.Coords) (arg1 : Memref sig .tc .vmem S1x1 .f32) (harg1 : arg1.IsWhole) (arg2 : Memref sig .tc .vmem S768x2048 .bf16) (harg2 : arg2.IsWhole) (arg3 : Memref sig .tc .vmem S512x2048 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S768x512 .bf16) (harg6 : arg6.IsWhole) (arg7 : Memref sig .tc .vmem S768x2048 .fp8e4m3) (harg7 : arg7.IsWhole) (hc0 : ¬isFirst i)
    (x0 : Vec F S1x1 .f32) (x1 : Vec F S768x2048 .bf16) (x2 : Vec F S512x2048 .fp8e4m3) (x3 : Vec F S1x512 .f32) (x4 : Vec F S1x512 .f32)
    (x6 : Vec F S768x2048 .fp8e4m3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf x0 x6 x2 x3 x4) ∗ owns (c : Thread nD τ) arg7 fullShare x6) -∗ K ⟨⟩))
      ⊢ wp frame (wpE (defs₀ (F := F)) Variants.none c none) E (cc0_w8a8_linear i arg1 harg1 arg2 harg2 arg3 harg3 arg4 harg4 arg5 harg5 arg6 harg6 arg7 harg7) K := by
  simp only [cc0_w8a8_linear_eq_skeleton]; unfold cc0_w8a8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_y _), View.canon_unit_zero zero2]
    exact yOf_congr (View.ld_unit_zero zero2 _ _) (View.ld_unit_zero zero2 _ _) (View.ld_unit_zero zero2 _ _) (View.ld_unit_zero zero2 _ _) (View.ld_unit_zero zero2 _ _)
  iexists f6; isplitr; · ipureintro; rfl
  iexact H6

variable (m : (ℓ : Loc nD τ sig) → Buf (Elt F) ℓ) (ρ : Dev nD → PrngReg)

/-! ## The pipeline's proof data -/

/-- The first point. -/
abbrev t0 : Fin cfg0.N := ⟨0, by decide⟩

/-- The codes that the first point stores, from the arrays as the region finds them. -/
def codesAt (c : Dev nD) : Vec F S768x2048 .fp8e4m3 := codesOf (iblk m c 0 t0) (iblk m c 1 t0)

/-- The proof data on core `c`: the arrays as the region finds them; after the body at point `t` each input's buffer at
    its block, the y window at the product by the codes, the codes window at the codes of the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf (iblk m c 0 t) (codesAt m c) (iblk m c 2 t) (iblk m c 3 t) (iblk m c 4 t)
    | ⟨6, _⟩ => codesAt m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = yOf (iblk m c 0 t) (codesAt m c) (iblk m c 2 t) (iblk m c 3 t) (iblk m c 4 t) := by
  dsimp only [dats]
theorem after_6 (c : Dev nD) (t : Fin cfg0.N) : (dats m 0 c).after 6 t = codesAt m c := by dsimp only [dats]

/-- Each input's buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The codes window is idle after the first point. -/
theorem idle_6 (t : Fin cfg0.N) (h : t.val % 7 ≠ 0) : cfg0.idle 6 (grid0.coords t) = true := by
  have hc : ¬isFirst (grid0.coords t) := fun hc => h ((isFirst_iff t).mp hc)
  show (!(k0_cond1 (grid0.coords t) == 1#1)) = true
  rw [beq_eq_false_iff_ne.mpr hc, Bool.not_false]
/-- It is not idle at the first. -/
theorem live_6 (t : Fin cfg0.N) (h : t.val % 7 = 0) : cfg0.idle 6 (grid0.coords t) = false := by
  have hc : isFirst (grid0.coords t) := (isFirst_iff t).mpr h
  show (!(k0_cond1 (grid0.coords t) == 1#1)) = false
  rw [beq_iff_eq.mpr hc, Bool.not_true]

/-- From the second point on, the codes window's buffer is not fresh. -/
theorem fresh_6 : ∀ n, n < cfg0.N → cfg0.fresh 6 n = decide (n = 0)
  | 0, _ => Cfg.fresh_zero cfg0 6
  | n + 1, h => by
    have h7 : n + 1 < 7 := lt_of_lt_of_eq h N_0
    have hn : n < cfg0.N := Nat.lt_of_succ_lt h
    have hfl : (cfg0.win 6).flush ⟨n, hn⟩ = false := by
      rw [Bool.eq_false_iff]; intro hf
      have := (flush0_6 ⟨n, hn⟩).mp hf
      simp only at this; omega
    rw [Cfg.fresh_succ cfg0 6 n hn, hfl, Bool.false_or, fresh_6 n hn]
    by_cases h0 : n = 0
    · rw [live_6 ⟨n, hn⟩ (by simp only [h0]), Bool.false_and]
      exact (decide_eq_false (Nat.succ_ne_zero n)).symm
    · rw [decide_eq_false h0, Bool.and_false]
      exact (decide_eq_false (Nat.succ_ne_zero n)).symm

/-- The codes window holds the codes at every later point. -/
theorem before_6 (c : Dev nD) (t : Fin cfg0.N) (h : t.val % 7 ≠ 0) (d) : (dats m 0 c).before 6 t d = codesAt m c := by
  rw [(dats m 0 c).before_out_traj 6 rfl (fun _ _ => rfl) (fun t' _ _ _ => by rw [after_6, after_6]) t.val t rfl d,
    fresh_6 t.val t.isLt, if_neg (by simp only [decide_eq_true_eq]; omega), after_6]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- What the body leaves in the codes window: the codes, at every point. -/
theorem leaves_6 (c : Dev nD) (t : Fin cfg0.N) :
    owns (c : Thread nD τ) (st0_6 t) fullShare (codesAt m c) ⊢ ((dats m 0 c).leavesExact 6 t : sProp 𝕄) := by
  by_cases h : t.val % 7 = 0
  · rw [show (dats m 0 c).leavesExact 6 t = owns (c : Thread nD τ) (st0_6 t) fullShare ((dats m 0 c).after 6 t) from by
      unfold Dat.leavesExact; rw [live_6 t h], after_6]
  · by_cases hf : (cfg0.win 6).flush t = true
    · rw [show (dats m 0 c).leavesExact 6 t = owns (c : Thread nD τ) (st0_6 t) fullShare ((dats m 0 c).after 6 t) from by
        unfold Dat.leavesExact; rw [idle_6 t h, hf], after_6]
    · rw [(dats m 0 c).leavesExact_idle 6 t (idle_6 t h) (Bool.not_eq_true _ ▸ hf)]
      simp only [before_6 m c t h]
      iintro H
      iexists (codesAt m c)
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  have hN : t.val < 7 := lt_of_lt_of_eq t.isLt (show cfg0.N = 7 from N_0)
  by_cases h : t.val % 7 = 0
  · obtain rfl : t = t0 := Fin.ext (by simp only; omega)
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t0) _ _ _ _ _ _ _ _ _ _ _ _ _ _ ((isFirst_iff t0).mpr h) (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t0)
    iexact H6
  · simp only [before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun hc => h ((isFirst_iff t).mp hc)) (iblk m c 0 t) (iblk m c 1 t) (iblk m c 2 t) (iblk m c 3 t) (iblk m c 4 t) (codesAt m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6 m c t)
    iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The program's run from any memory with zero counters: every array of the pipeline ends at what the proof data say,
    every other buffer at what the host lines leave, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Point.lean ====
/- What the idealized kernel's body computes, element by element, is what the reference computes there. -/
module

public import proofs.«01_k».proof.Proof.Scale
public import proofs.«01_k».proof.Proof.Body

@[expose] public section

set_option maxRecDepth 16384

noncomputable section

namespace Cert.Point

open Idealize.ShloMosaic

theorem named_log2e : (Named.named Cert.ReferenceIdeal.κ "log2e" 0x3FB8AA3B#32 : Ideal .f32) = (((Real.log 2)⁻¹ : ℝ) : EReal) :=
  IdealRules.named_const.ideal_named_scalar _ _ _ _ rfl

/-- The reference's codes at an element: the activation by the inverse scale, clipped. -/
theorem ref_codes (s : Vec Ideal Cert.ReferenceIdeal.S1 .f32) (x : Vec Ideal Cert.ReferenceIdeal.S1x768x2048 .bf16) (a : Fin 768) (b : Fin 2048) :
    Cert.ReferenceIdeal.Gen.k0_pay2 (F := Ideal) s x (ix3 0 a b)
      = min (Ideal.ofBits .f32 1138753536#32) (max (Ideal.ofBits .f32 3286237184#32)
          (x (ix3 0 a b) * (((2 : ℝ) ^ (1 - Scale.expOf (Scale.field (FloatOps.absf (F := Ideal) (φ := .f32) (s (ix1 0))))) : ℝ) : EReal))) := by
  rw [← Scale.exp2_refExp _ (Scale.absf_nonneg _)]
  pointwise [Cert.ReferenceIdeal.Gen.k0_pay2]
  rw [named_log2e]
  rfl

/-- The kernel's codes at an element are the reference's. -/
theorem codes_eq (s : Vec Ideal Cert.KernelIdeal.S1x1 .f32) (x : Vec Ideal Cert.KernelIdeal.S768x2048 .bf16)
    (S : Vec Ideal Cert.ReferenceIdeal.S1 .f32) (X : Vec Ideal Cert.ReferenceIdeal.S1x768x2048 .bf16)
    (hs : s (ix2 0 0) = S (ix1 0)) (hx : ∀ (a : Fin 768) (b : Fin 2048), x (ix2 a b) = X (ix3 0 a b)) (a : Fin 768) (b : Fin 2048) :
    Cert.KernelIdeal.Hand.codesOf s x (ix2 a b) = Cert.ReferenceIdeal.Gen.k0_pay2 (F := Ideal) S X (ix3 0 a b) := by
  rw [ref_codes, ← hs, ← hx]
  have h := Scale.pay4_apply (Cert.KernelIdeal.Gen.k0_pay1 s)
  have h1 : Cert.KernelIdeal.Gen.k0_pay1 s (ix2 0 0) = s (ix2 0 0) := by pointwise [Cert.KernelIdeal.Gen.k0_pay1]
  rw [h1] at h
  rw [← h]
  unfold Cert.KernelIdeal.Hand.codesOf
  generalize Cert.KernelIdeal.Gen.k0_pay4 (Cert.KernelIdeal.Gen.k0_pay1 s) = v
  pointwise [Cert.KernelIdeal.Gen.k0_pay2, Cert.KernelIdeal.Gen.k0_pay5]

/-- The kernel's block of the product at an element is the reference's product there. -/
theorem y_eq (s : Vec Ideal Cert.KernelIdeal.S1x1 .f32) (q : Vec Ideal Cert.KernelIdeal.S768x2048 .fp8e4m3)
    (w : Vec Ideal Cert.KernelIdeal.S512x2048 .fp8e4m3) (ws b : Vec Ideal Cert.KernelIdeal.S1x512 .f32)
    (S : Vec Ideal Cert.ReferenceIdeal.S1 .f32) (X : Vec Ideal Cert.ReferenceIdeal.S1x768x2048 .bf16)
    (W : Vec Ideal Cert.ReferenceIdeal.S3584x2048 .fp8e4m3) (WS B : Vec Ideal Cert.ReferenceIdeal.S3584 .f32)
    (r : Fin 768) (j : Fin 512) (J : Fin 3584)
    (hs : s (ix2 0 0) = S (ix1 0))
    (hq : ∀ k : Fin 2048, q (ix2 r k) = Cert.ReferenceIdeal.Gen.k0_pay2 (F := Ideal) S X (ix3 0 r k))
    (hw : ∀ k : Fin 2048, w (ix2 j k) = W (ix2 J k)) (hws : ws (ix2 0 j) = WS (ix1 J)) (hb : b (ix2 0 j) = B (ix1 J)) :
    Cert.KernelIdeal.Hand.yOf s q w ws b (ix2 r j)
      = Cert.ReferenceIdeal.Gen.k0_pay1 (F := Ideal) (Cert.ReferenceIdeal.Gen.k0_pay3 S X W WS B) (ix3 0 r J) := by
  unfold Cert.ReferenceIdeal.Gen.k0_pay3 Cert.ReferenceIdeal.Gen.k0_pay1
  generalize Cert.ReferenceIdeal.Gen.k0_pay2 (F := Ideal) S X = Q at hq
  pointwise [Cert.KernelIdeal.Hand.yOf, Cert.KernelIdeal.Gen.k0_pay3, Cert.KernelIdeal.Gen.k0_pay1]
  rw [hs, hws, hb]
  simp only [hq, hw]

end Cert.Point

end
-- ==== Proof.Arrays.lean ====
/- The arrays that the idealized kernel's pallas_call leaves, as the reference's values of the argument arrays. -/
module

public import proofs.«01_k».proof.Proof.Point
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-! ## Reshapes that drop or add a leading unit axis -/

/-- A block of rows without its leading unit axis. -/
theorem dropUnit_rows {α : Type} (X : S1x768x2048.Idx → α) (h : S1x768x2048.ShapeCasts S768x2048) (a : Fin 768) (b : Fin 2048) :
    shapeCast S768x2048 X h (ix2 a b) = X (ix3 0 a b) := by
  refine congrArg X (Shape.reshapeEquiv_eq_of_rowMajor _ ?_)
  show ((⟨3, ![1, 768, 2048]⟩ : Shape).rowMajor (ix3 0 a b)).val = ((⟨2, ![768, 2048]⟩ : Shape).rowMajor (ix2 a b)).val
  rw [Shape.rowMajor_val_three, Shape.rowMajor_val_two]
  show (0 * 768 + a.val) * 2048 + b.val = a.val * 2048 + b.val
  omega

/-- The codes with a leading unit axis. -/
theorem addUnit_codes {α : Type} (X : S768x2048.Idx → α) (h : S768x2048.ShapeCasts S1x768x2048) (a : Fin 768) (b : Fin 2048) :
    shapeCast S1x768x2048 X h (ix3 0 a b) = X (ix2 a b) := by
  refine congrArg X (Shape.reshapeEquiv_eq_of_rowMajor _ ?_)
  show ((⟨2, ![768, 2048]⟩ : Shape).rowMajor (ix2 a b)).val = ((⟨3, ![1, 768, 2048]⟩ : Shape).rowMajor (ix3 0 a b)).val
  rw [Shape.rowMajor_val_three, Shape.rowMajor_val_two]
  show a.val * 2048 + b.val = (0 * 768 + a.val) * 2048 + b.val
  omega

/-- The product with a leading unit axis. -/
theorem addUnit_y {α : Type} (X : S768x3584.Idx → α) (h : S768x3584.ShapeCasts S1x768x3584) (a : Fin 768) (b : Fin 3584) :
    shapeCast S1x768x3584 X h (ix3 0 a b) = X (ix2 a b) := by
  refine congrArg X (Shape.reshapeEquiv_eq_of_rowMajor _ ?_)
  show ((⟨2, ![768, 3584]⟩ : Shape).rowMajor (ix2 a b)).val = ((⟨3, ![1, 768, 3584]⟩ : Shape).rowMajor (ix3 0 a b)).val
  rw [Shape.rowMajor_val_three, Shape.rowMajor_val_two]
  show a.val * 3584 + b.val = (0 * 768 + a.val) * 3584 + b.val
  omega

/-! ## What the region finds -/

/-- Operand 0 of the region is argument 1 reshaped. -/
theorem V_main_v0 (c : Dev nD) : V m c main_v0 = shapeCast S1x1 (m ((c : Thread nD τ).loc main_arg1)) shapeCasts_S1_S1x1 := by
  unfold V V0 hostOps0
  simp only [List.flatten_cons, List.flatten_nil, List.append_nil]
  after_results
  rfl

/-- Operand 1 of the region is argument 0 reshaped. -/
theorem V_main_v1 (c : Dev nD) : V m c main_v1 = shapeCast S768x2048 (m ((c : Thread nD τ).loc main_arg0)) shapeCasts_S1x768x2048_S768x2048 := by
  unfold V V0 hostOps0
  simp only [List.flatten_cons, List.flatten_nil, List.append_nil]
  after_results
  rfl

/-- Operand 2 of the region is argument 3 reshaped. -/
theorem V_main_v2 (c : Dev nD) : V m c main_v2 = shapeCast S1x3584 (m ((c : Thread nD τ).loc main_arg3)) shapeCasts_S3584_S1x3584 := by
  unfold V V0 hostOps0
  simp only [List.flatten_cons, List.flatten_nil, List.append_nil]
  after_results
  rfl

/-- Operand 3 of the region is argument 4 reshaped. -/
theorem V_main_v3 (c : Dev nD) : V m c main_v3 = shapeCast S1x3584 (m ((c : Thread nD τ).loc main_arg4)) shapeCasts_S3584_S1x3584 := by
  unfold V V0 hostOps0
  simp only [List.flatten_cons, List.flatten_nil, List.append_nil]
  after_results
  rfl

/-- The block indices of the windows at a point: the weights, their scales and the bias move with the point. -/
theorem idx : ∀ t : Fin grid0.N, win0_0.index t = ![0, 0] ∧ win0_1.index t = ![0, 0] ∧ win0_2.index t = ![t.val, 0]
    ∧ win0_3.index t = ![0, t.val] ∧ win0_4.index t = ![0, t.val] ∧ win0_5.index t = ![0, t.val] ∧ win0_6.index t = ![0, 0] := by
  decide +kernel

/-- The scale's block. -/
theorem iblk_0 (c : Dev nD) (t : Fin cfg0.N) : iblk m c 0 t (ix2 0 0) = m ((c : Thread nD τ).loc main_arg1) (ix1 0) := by
  blk_simp [iblk, idx t]
  rw [V_main_v0]
  rw [show ((win0_0.blk t).view.emb (ix2 0 0) : S1x1.Idx) = ix2 0 0 by blk_ext [idx t]]
  pointwise

/-- The activations' block is all of them. -/
theorem iblk_1 (c : Dev nD) (t : Fin cfg0.N) (a : Fin 768) (b : Fin 2048) :
    iblk m c 1 t (ix2 a b) = m ((c : Thread nD τ).loc main_arg0) (ix3 0 a b) := by
  show V m c main_v1 ((win0_1.blk t).view.emb (ix2 a b)) = _
  rw [V_main_v1, show ((win0_1.blk t).view.emb (ix2 a b) : S768x2048.Idx) = ix2 a b by blk_ext [idx t]]
  exact dropUnit_rows _ _ a b

/-- The weight codes' block at a point: the point's 512 rows. -/
theorem iblk_2 (c : Dev nD) (t : Fin cfg0.N) (a : Fin 512) (b : Fin 2048) (A : Fin 3584) (hA : A.val = t.val * 512 + a.val) :
    iblk m c 2 t (ix2 a b) = m ((c : Thread nD τ).loc main_arg2) (ix2 A b) := by
  blk_ext [iblk, V, idx t]

/-- The weight scales' block at a point: the point's 512 columns, -/
theorem iblk_3 (c : Dev nD) (t : Fin cfg0.N) (a : Fin 512) (A : Fin 3584) (hA : A.val = t.val * 512 + a.val) :
    iblk m c 3 t (ix2 0 a) = m ((c : Thread nD τ).loc main_arg3) (ix1 A) := by
  blk_simp [iblk, idx t]
  rw [V_main_v2, show ((win0_3.blk t).view.emb (ix2 0 a) : S1x3584.Idx) = ix2 0 A by blk_ext [idx t]]
  pointwise

/-- and the bias's. -/
theorem iblk_4 (c : Dev nD) (t : Fin cfg0.N) (a : Fin 512) (A : Fin 3584) (hA : A.val = t.val * 512 + a.val) :
    iblk m c 4 t (ix2 0 a) = m ((c : Thread nD τ).loc main_arg4) (ix1 A) := by
  blk_simp [iblk, idx t]
  rw [V_main_v3, show ((win0_4.blk t).view.emb (ix2 0 a) : S1x3584.Idx) = ix2 0 A by blk_ext [idx t]]
  pointwise

/-! ## What the region leaves -/

/-- The codes, at every element, are the reference's. -/
theorem codesAt_eq (c : Dev nD) (a : Fin 768) (b : Fin 2048) : codesAt m c (ix2 a b)
    = Cert.ReferenceIdeal.Gen.k0_pay2 (F := Ideal) (m ((c : Thread nD τ).loc main_arg1)) (m ((c : Thread nD τ).loc main_arg0)) (ix3 0 a b) :=
  Cert.Point.codes_eq _ _ _ _ (iblk_0 m c t0) (iblk_1 m c t0) a b

/-- The codes array after the run. -/
def codesArr (c : Dev nD) : Vec Ideal S768x2048 .fp8e4m3 := fun i =>
  Cert.ReferenceIdeal.Gen.k0_pay2 (F := Ideal) (m ((c : Thread nD τ).loc main_arg1)) (m ((c : Thread nD τ).loc main_arg0)) (ix3 0 (i 0) (i 1))

/-- The product array after the run. -/
def yArr (c : Dev nD) : Vec Ideal S768x3584 .bf16 := fun i =>
  Cert.ReferenceIdeal.Gen.k0_pay1 (F := Ideal) (Cert.ReferenceIdeal.Gen.k0_pay3 (m ((c : Thread nD τ).loc main_arg1)) (m ((c : Thread nD τ).loc main_arg0))
    (m ((c : Thread nD τ).loc main_arg2)) (m ((c : Thread nD τ).loc main_arg3)) (m ((c : Thread nD τ).loc main_arg4))) (ix3 0 (i 0) (i 1))

/-- The codes array is written once, whole, after the last point. -/
theorem final_codes (c : Dev nD) : (dats m 0 c).arrAt 6 (cfgs 0).N = codesArr m c := by
  refine (dats m 0 c).arrAt_eq_of_covers 6 _ (by decide +kernel) fun t hf y => ?_
  blk_simp
  rw [after_6]
  obtain ⟨a, b, rfl⟩ : ∃ (a : Fin 768) (b : Fin 2048), y = (ix2 a b : S768x2048.Idx) := ⟨y 0, y 1, eq_ix2 (y : S768x2048.Idx)⟩
  rw [show ((win0_6.blk t).view.emb (ix2 a b) : S768x2048.Idx) = ix2 a b by blk_ext [idx t]]
  exact codesAt_eq m c a b

/-- The product array is written block by block. -/
theorem final_y (c : Dev nD) : (dats m 0 c).arrAt 5 (cfgs 0).N = yArr m c := by
  refine (dats m 0 c).arrAt_eq_of_covers 5 _ (by decide +kernel) fun t hf y => ?_
  blk_simp
  rw [after_5]
  obtain ⟨a, b, rfl⟩ : ∃ (a : Fin 768) (b : Fin 512), y = (ix2 a b : S768x512.Idx) := ⟨y 0, y 1, eq_ix2 (y : S768x512.Idx)⟩
  have ht : t.val < 7 := lt_of_lt_of_eq t.isLt N_0
  have hb : t.val * 512 + b.val < 3584 := by have := b.isLt; omega
  rw [show ((win0_5.blk t).view.emb (ix2 a b) : S768x3584.Idx) = ix2 a ⟨t.val * 512 + b.val, hb⟩ by blk_ext [idx t]]
  exact Cert.Point.y_eq _ _ _ _ _ _ _ _ _ _ a b ⟨t.val * 512 + b.val, hb⟩ (iblk_0 m c t) (codesAt_eq m c a)
    (fun k => iblk_2 m c t b k _ rfl) (iblk_3 m c t b _ rfl) (iblk_4 m c t b _ rfl)

end Cert.KernelIdeal.Hand

end
-- ==== Proof.Algebraic.lean ====
/- What the idealized kernel's run and the reference's run leave are the same arrays. -/
module

public import proofs.«01_k».proof.Proof.Arrays
public import proofs.«01_k».proof.Proof.Gen.ReferenceIdeal.Value
public import proofs.«01_k».proof.Defs

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The product that the reference computes from the kernel's arguments. -/
abbrev refY (c : Dev nD) : Vec Ideal S1x768x3584 .bf16 :=
  Cert.ReferenceIdeal.Gen.k0_pay1 (F := Ideal) (Cert.ReferenceIdeal.Gen.k0_pay3 (m ((c : Thread nD τ).loc main_arg1)) (m ((c : Thread nD τ).loc main_arg0))
    (m ((c : Thread nD τ).loc main_arg2)) (m ((c : Thread nD τ).loc main_arg3)) (m ((c : Thread nD τ).loc main_arg4)))

/-- The codes that the reference computes from the kernel's arguments. -/
abbrev refCodes (c : Dev nD) : Vec Ideal S1x768x2048 .fp8e4m3 :=
  Cert.ReferenceIdeal.Gen.k0_pay2 (F := Ideal) (m ((c : Thread nD τ).loc main_arg1)) (m ((c : Thread nD τ).loc main_arg0))

/-! ## The host lines after the region -/

/-- The first result is the product array reshaped. -/
theorem W_main_v5 (c : Dev nD) : Pipeline.afterTail₀ cfgs (dats m) 0 (V0 m) [hostOps1] c main_v5
    = shapeCast S1x768x3584 (yArr m c) shapeCasts_S768x3584_S1x768x3584 := by
  unfold Pipeline.afterTail₀
  simp only [List.flatten_cons, List.flatten_nil, List.append_nil]
  after_results
  refine (congrArg (fun X => shapeCast S1x768x3584 X shapeCasts_S768x3584_S1x768x3584)
    (Pipeline.withArrays_arr spec0 (by decide) c (V0 m c) (fun w => (dats m 0 c).arrAt w (cfgs 0).N) 5)).trans ?_
  exact congrArg (fun X => shapeCast S1x768x3584 X shapeCasts_S768x3584_S1x768x3584) (final_y m c)

/-- The second result is the codes array reshaped. -/
theorem W_main_v6 (c : Dev nD) : Pipeline.afterTail₀ cfgs (dats m) 0 (V0 m) [hostOps1] c main_v6
    = shapeCast S1x768x2048 (codesArr m c) shapeCasts_S768x2048_S1x768x2048 := by
  unfold Pipeline.afterTail₀
  simp only [List.flatten_cons, List.flatten_nil, List.append_nil]
  after_results
  refine (congrArg (fun X => shapeCast S1x768x2048 X shapeCasts_S768x2048_S1x768x2048)
    (Pipeline.withArrays_arr spec0 (by decide) c (V0 m c) (fun w => (dats m 0 c).arrAt w (cfgs 0).N) 6)).trans ?_
  exact congrArg (fun X => shapeCast S1x768x2048 X shapeCasts_S768x2048_S1x768x2048) (final_codes m c)

/-! ## The results -/

/-- The first result is the reference's product. -/
theorem result_y (c : Dev nD) : shapeCast S1x768x3584 (yArr m c) shapeCasts_S768x3584_S1x768x3584 = refY m c := by
  funext i
  obtain ⟨a, b, rfl⟩ : ∃ (a : Fin 768) (b : Fin 3584), i = (ix3 0 a b : S1x768x3584.Idx) :=
    ⟨i 1, i 2, (eq_ix3 (i : S1x768x3584.Idx)).trans (congrArg (fun z : Fin 1 => (ix3 z (i 1) (i 2) : S1x768x3584.Idx)) (Subsingleton.elim _ _))⟩
  exact addUnit_y _ _ a b

/-- The second result is the reference's codes. -/
theorem result_codes (c : Dev nD) : shapeCast S1x768x2048 (codesArr m c) shapeCasts_S768x2048_S1x768x2048 = refCodes m c := by
  funext i
  obtain ⟨a, b, rfl⟩ : ∃ (a : Fin 768) (b : Fin 2048), i = (ix3 0 a b : S1x768x2048.Idx) :=
    ⟨i 1, i 2, (eq_ix3 (i : S1x768x2048.Idx)).trans (congrArg (fun z : Fin 1 => (ix3 z (i 1) (i 2) : S1x768x2048.Idx)) (Subsingleton.elim _ _))⟩
  exact addUnit_codes _ _ a b

/-- After the run the first result holds the reference's product, -/
theorem post_y (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v5) = refY m c :=
  ((h c).2 main_v5 (Pipeline.mem_restRefs_of main_v5 (by decide) (by decide))).trans ((W_main_v5 m c).trans (result_y m c))

/-- and the second the reference's codes. -/
theorem post_codes (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v6) = refCodes m c :=
  ((h c).2 main_v6 (Pipeline.mem_restRefs_of main_v6 (by decide) (by decide))).trans ((W_main_v6 m c).trans (result_codes m c))

/-- The kernel leaves in its three results the arrays that the reference leaves in its own. -/
theorem algebraic : Cert.algebraic_KernelIdeal_ReferenceIdeal := by
  intro m g m' g' _ hagree
  refine ⟨fun c => refY m c, fun c => refCodes m c, fun c => m ((c : Thread nD τ).loc main_arg1), ?_, ?_⟩
  · refine (θ_run defs _ _).mono (fun r h c => ?_) (θ_run_and (run_main m g) (unchanged m g))
    obtain ⟨hp, ha⟩ := h
    obtain ⟨h0, h1, h2, h3, h4⟩ := ha c
    exact ⟨post_y m r hp c, post_codes m r hp c, h1, h0, h1, h2, h3, h4⟩
  · refine (θ_run Cert.ReferenceIdeal.defs _ _).mono (fun r h c => ?_) (Cert.ReferenceIdeal.Value.run m' g')
    obtain ⟨h5, h6, h7, ha⟩ := h c
    obtain ⟨e0, e1, e2, e3, e4⟩ := hagree c
    refine ⟨h5.trans ?_, h6.trans ?_, h7.trans e1, ha⟩
    · show Cert.ReferenceIdeal.Gen.k0_pay1 (F := Ideal) (Cert.ReferenceIdeal.Gen.k0_pay3 _ _ _ _ _) = _
      rw [e0, e1, e2, e3, e4]
    · show Cert.ReferenceIdeal.Gen.k0_pay2 (F := Ideal) _ _ = _
      rw [e0, e1]

end Cert.KernelIdeal.Hand

end
-- ==== Proof.KernelFrame.lean ====
/- The frame of the kernel as it runs in f32, bf16 and fp8. No rewrite separates the kernel from its idealized module, so the
   two programs are the same program at every choice of floats, and the frame that Body.lean proves for the one at
   every choice of floats is the other's. -/
module

public import proofs.«01_k».proof.Proof.Body
public import proofs.«01_k».proof.Proof.Gen.Kernel

@[expose] public section

noncomputable section

namespace Cert.Kernel.Hand

open Idealize.ShloMosaic Idealize.ShloMosaic.TcCoe Idealize.SL.Sem

variable {F : FTy → Type} [FloatOps F]

/-- The two bodies are the same function. -/
theorem body_eq : Cert.Kernel.cc0_w8a8_linear (F := F) = Cert.KernelIdeal.cc0_w8a8_linear (F := F) := by
  unfold Cert.Kernel.cc0_w8a8_linear Cert.KernelIdeal.cc0_w8a8_linear
  rfl

/-- The two tables run the same body at their one label, -/
theorem defs₀_tc (a : Cert.Kernel.Λ₀.Args (0 : Fin 1)) :
    Cert.Kernel.defs₀ (F := F) .tc (0 : Fin 1) a = Cert.KernelIdeal.defs₀ (F := F) .tc (0 : Fin 1) a := by
  obtain ⟨t, s⟩ := a
  show Cert.Kernel.cc0_w8a8_linear .. = Cert.KernelIdeal.cc0_w8a8_linear ..
  rw [body_eq]
  rfl

/-- so they are the same table, -/
theorem defs₀_eq : Cert.Kernel.defs₀ (F := F) = Cert.KernelIdeal.defs₀ (F := F) := by
  funext pr ℓ a
  cases pr with
  | tc =>
    obtain rfl : ℓ = (0 : Fin 1) := Subsingleton.elim (α := Fin 1) ℓ 0
    exact defs₀_tc a
  | scScalar _ => rfl
  | scVector _ _ => rfl

/-- with the region's, too. -/
theorem defs_eq : Cert.Kernel.defs (F := F) = Cert.KernelIdeal.defs (F := F) := by
  unfold Cert.Kernel.defs Cert.KernelIdeal.defs
  rw [defs₀_eq]
  rfl

/-- The two entry functions are the same program. -/
theorem main_eq : Cert.Kernel.main (F := F) = Cert.KernelIdeal.main (F := F) := rfl

variable (m : (ℓ : Loc nD τ sig) → Buf (Elt F) ℓ) (ρ : Dev nD → PrngReg)

/-- The kernel's frame: the argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Hand.frame m ρ

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import proofs.«01_k».proof.Proof.KernelFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => Cert.ReferenceIdeal.Gen.frame m ρ,
  trivial,
  Cert.KernelIdeal.Hand.algebraic⟩

end Cert.Proof

end
